-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_range [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_range [hPre_ids_in_range : Cert.Pre_ids_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_range [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_range [hReferenceIdeal : Cert.ReferenceIdeal.Facts] [hPre_ids_in_range : Cert.Pre_ids_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_range [hKernelIdeal : Cert.KernelIdeal.Facts] [hReferenceIdeal : Cert.ReferenceIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts),
    quiescent_Kernel (hKernel := hKernel)
    ∧ quiescent_KernelIdeal (hKernelIdeal := hKernelIdeal)
    ∧ quiescent_KernelIdeal_pre_ids_in_range (hKernelIdeal := hKernelIdeal) (hPre_ids_in_range := hPre_ids_in_range)
    ∧ quiescent_ReferenceIdeal (hReferenceIdeal := hReferenceIdeal)
    ∧ quiescent_ReferenceIdeal_pre_ids_in_range (hReferenceIdeal := hReferenceIdeal) (hPre_ids_in_range := hPre_ids_in_range)
    ∧ preserves_Kernel_KernelIdeal
    ∧ algebraic_KernelIdeal_ReferenceIdeal_pre_ids_in_range (hKernelIdeal := hKernelIdeal) (hReferenceIdeal := hReferenceIdeal) (hPre_ids_in_range := hPre_ids_in_range)
-- ==== Pre_ids_in_range.lean ====
abbrev S320000x128 : Shape := ⟨2, ![320000, 128]⟩
abbrev S320000 : Shape := ⟨1, ![320000]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S320000x128 .f32) (main_arg1 : IVec S320000 32) : IVec S320000 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 127#32
  let main_v2 : IVec S320000 32 := broadcastInDim S320000 ![] bcast_S_S320000 main_c_0
  let main_v3 : IVec S320000 1 := cmpi .slt main_arg1 main_v2
  let main_v4 : IVec S320000 1 := andi main_v1 main_v3
  main_v4
-- ==== Kernel.lean ====
abbrev S320000x128 : Shape := ⟨2, ![320000, 128]⟩
abbrev S320000 : Shape := ⟨1, ![320000]⟩
abbrev S20x1x16000 : Shape := ⟨3, ![20, 1, 16000]⟩
abbrev S1x1 : Shape := ⟨2, ![1, 1]⟩
abbrev S_ : Shape := ⟨0, ![]⟩
abbrev S16000x128 : Shape := ⟨2, ![16000, 128]⟩
abbrev S1x1x16000 : Shape := ⟨3, ![1, 1, 16000]⟩
abbrev S128x1 : Shape := ⟨2, ![128, 1]⟩
abbrev S128x128 : Shape := ⟨2, ![128, 128]⟩
abbrev S1x16000 : Shape := ⟨2, ![1, 16000]⟩
abbrev S128x16000 : Shape := ⟨2, ![128, 16000]⟩
abbrev S16000x1 : Shape := ⟨2, ![16000, 1]⟩
abbrev S128 : Shape := ⟨1, ![128]⟩
abbrev S1x128 : Shape := ⟨2, ![1, 128]⟩
abbrev S1x1x128 : Shape := ⟨3, ![1, 1, 128]⟩
abbrev S1 : Shape := ⟨1, ![1]⟩
abbrev S1x1x1 : Shape := ⟨3, ![1, 1, 1]⟩
abbrev S1x128x128 : Shape := ⟨3, ![1, 128, 128]⟩

abbrev nBuf : Space → Nat
  | .hbm => 5
  | .vmem => 8
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S20x1x16000, .i32⟩
  | .hbm, ⟨3, _⟩ => ⟨S1x1, .f32⟩
  | .hbm, ⟨4, _⟩ => ⟨S_, .f32⟩
  | .local _ .vmem, ⟨0, _⟩ => ⟨S16000x128, .f32⟩
  | .local _ .vmem, ⟨1, _⟩ => ⟨S16000x128, .f32⟩
  | .local _ .vmem, ⟨2, _⟩ => ⟨S1x1x16000, .i32⟩
  | .local _ .vmem, ⟨3, _⟩ => ⟨S1x1x16000, .i32⟩
  | .local _ .vmem, ⟨4, _⟩ => ⟨S1x1, .f32⟩
  | .local _ .vmem, ⟨5, _⟩ => ⟨S128x1, .f32⟩
  | .local _ .vmem, ⟨6, _⟩ => ⟨S128x128, .f32⟩
  | .local _ .vmem, ⟨7, _⟩ => ⟨S128x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v34 : BitVec 1 := Scalar.cmpi .eq arg0 c19_i32
  let v35 : BitVec 32 := Scalar.extui v34
  let c0_i32_22 : BitVec 32 := 0#32
  let v36 : BitVec 1 := Scalar.cmpi .ne v35 c0_i32_22
  v36

@[reducible] def k0_t1_loop : Scf.Loop 32 :=
  let c0_i32_42 : BitVec 32 := 0#32
  let c128_i32 : BitVec 32 := 128#32
  let v81 : BitVec 32 := Scalar.addi c0_i32_42 c128_i32
  let c1_i32 : BitVec 32 := 1#32
  ⟨c0_i32_42, v81, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S320000x128 : Shape := ⟨2, ![320000, 128]⟩
abbrev S320000 : Shape := ⟨1, ![320000]⟩
abbrev S_ : Shape := ⟨0, ![]⟩
abbrev S127 : Shape := ⟨1, ![127]⟩
abbrev S320000x1 : Shape := ⟨2, ![320000, 1]⟩
abbrev S128x128 : Shape := ⟨2, ![128, 128]⟩
abbrev S127x1 : Shape := ⟨2, ![127, 1]⟩
abbrev S1 : Shape := ⟨1, ![1]⟩
abbrev S127x128 : Shape := ⟨2, ![127, 128]⟩
abbrev S128x1 : Shape := ⟨2, ![128, 1]⟩
abbrev S2 : Shape := ⟨1, ![2]⟩
abbrev S128x1x128 : Shape := ⟨3, ![128, 1, 128]⟩
abbrev S1x128x128 : Shape := ⟨3, ![1, 128, 128]⟩
abbrev S128x128x128 : Shape := ⟨3, ![128, 128, 128]⟩
abbrev S128x128x1 : Shape := ⟨3, ![128, 128, 1]⟩
abbrev S1x128x1x1 : Shape := ⟨4, ![1, 128, 1, 1]⟩
abbrev S1x128x128x1 : Shape := ⟨4, ![1, 128, 128, 1]⟩
abbrev S1x128 : Shape := ⟨2, ![1, 128]⟩
abbrev S1x1x1x128 : Shape := ⟨4, ![1, 1, 1, 128]⟩
abbrev S128x1x1x128 : Shape := ⟨4, ![128, 1, 1, 128]⟩

abbrev nBuf : Space → Nat
  | .hbm => 132
  | .vmem => 0
  | .smem => 0
  | _ => 0

abbrev hbmTy0_0 (i : Nat) : BufTy := match i % 128 with
  | 0 => ⟨S320000x128, .f32⟩
  | 1 => ⟨S320000, .i32⟩
  | 2 => ⟨S_, .f32⟩
  | 3 => ⟨S320000, .f32⟩
  | 4 => ⟨S_, .f32⟩
  | 5 => ⟨S127, .f32⟩
  | 6 => ⟨S320000x1, .i32⟩
  | 7 => ⟨S127, .f32⟩
  | 8 => ⟨S_, .f32⟩
  | 9 => ⟨S320000, .f32⟩
  | 10 => ⟨S320000x128, .f32⟩
  | 11 => ⟨S_, .f32⟩
  | 12 => ⟨S320000, .f32⟩
  | 13 => ⟨S_, .f32⟩
  | 14 => ⟨S127, .f32⟩
  | 15 => ⟨S320000x1, .i32⟩
  | 16 => ⟨S127, .f32⟩
  | 17 => ⟨S_, .f32⟩
  | 18 => ⟨S127, .f32⟩
  | 19 => ⟨S320000x1, .i32⟩
  | 20 => ⟨S127, .f32⟩
  | 21 => ⟨S_, .f32⟩
  | 22 => ⟨S127, .f32⟩
  | 23 => ⟨S127, .f32⟩
  | 24 => ⟨S_, .f32⟩
  | 25 => ⟨S127, .f32⟩
  | 26 => ⟨S127, .f32⟩
  | 27 => ⟨S127, .f32⟩
  | 28 => ⟨S127, .f32⟩
  | 29 => ⟨S127, .f32⟩
  | 30 => ⟨S127, .f32⟩
  | 31 => ⟨S_, .f32⟩
  | 32 => ⟨S127, .f32⟩
  | 33 => ⟨S127, .f32⟩
  | 34 => ⟨S_, .f32⟩
  | 35 => ⟨S127, .f32⟩
  | 36 => ⟨S127, .f32⟩
  | 37 => ⟨S127, .f32⟩
  | 38 => ⟨S_, .f32⟩
  | 39 => ⟨S127, .f32⟩
  | 40 => ⟨S127, .i1⟩
  | 41 => ⟨S_, .f32⟩
  | 42 => ⟨S127, .f32⟩
  | 43 => ⟨S127, .f32⟩
  | 44 => ⟨S_, .f32⟩
  | 45 => ⟨S_, .f32⟩
  | 46 => ⟨S127, .f32⟩
  | 47 => ⟨S127, .f32⟩
  | 48 => ⟨S127, .f32⟩
  | 49 => ⟨S_, .f32⟩
  | 50 => ⟨S_, .f32⟩
  | 51 => ⟨S127, .f32⟩
  | 52 => ⟨S127, .f32⟩
  | 53 => ⟨S_, .f32⟩
  | 54 => ⟨S128x128, .f32⟩
  | 55 => ⟨S127x1, .f32⟩
  | 56 => ⟨S_, .i32⟩
  | 57 => ⟨S1, .i32⟩
  | 58 => ⟨S127x128, .f32⟩
  | 59 => ⟨S128x128, .f32⟩
  | 60 => ⟨S_, .f32⟩
  | 61 => ⟨S128x1, .f32⟩
  | 62 => ⟨S_, .i32⟩
  | 63 => ⟨S1, .i32⟩
  | 64 => ⟨S_, .i32⟩
  | 65 => ⟨S1, .i32⟩
  | 66 => ⟨S2, .i32⟩
  | 67 => ⟨S128x1, .f32⟩
  | 68 => ⟨S128x1x128, .f32⟩
  | 69 => ⟨S1x128x128, .f32⟩
  | 70 => ⟨S128x128x128, .f32⟩
  | 71 => ⟨S128x128x128, .f32⟩
  | 72 => ⟨S128x128x128, .f32⟩
  | 73 => ⟨S128x128x128, .f32⟩
  | 74 => ⟨S_, .f32⟩
  | 75 => ⟨S128x128, .f32⟩
  | 76 => ⟨S_, .f32⟩
  | 77 => ⟨S128x128, .f32⟩
  | 78 => ⟨S128x128, .i1⟩
  | 79 => ⟨S_, .f32⟩
  | 80 => ⟨S_, .f32⟩
  | 81 => ⟨S128x128, .f32⟩
  | 82 => ⟨S128x128, .f32⟩
  | 83 => ⟨S128x128, .f32⟩
  | 84 => ⟨S_, .f32⟩
  | 85 => ⟨S_, .f32⟩
  | 86 => ⟨S128x128, .f32⟩
  | 87 => ⟨S128x128, .f32⟩
  | 88 => ⟨S128x128x1, .f32⟩
  | 89 => ⟨S_, .f32⟩
  | 90 => ⟨S128x128x1, .f32⟩
  | 91 => ⟨S128x128x1, .f32⟩
  | 92 => ⟨S128x128x128, .f32⟩
  | 93 => ⟨S128x128x128, .f32⟩
  | 94 => ⟨S1x128x1x1, .f32⟩
  | 95 => ⟨S1x128x128x1, .f32⟩
  | 96 => ⟨S128x128, .f32⟩
  | 97 => ⟨S1x128x128, .f32⟩
  | 98 => ⟨S128x128x128, .f32⟩
  | 99 => ⟨S128x128x128, .f32⟩
  | 100 => ⟨S128x128x128, .f32⟩
  | 101 => ⟨S1x128, .f32⟩
  | 102 => ⟨S1x1x1x128, .f32⟩
  | 103 => ⟨S128x1x1x128, .f32⟩
  | 104 => ⟨S128x128, .f32⟩
  | 105 => ⟨S1x128x128, .f32⟩
  | 106 => ⟨S128x128x128, .f32⟩
  | 107 => ⟨S128x128x128, .f32⟩
  | 108 => ⟨S128x128x128, .f32⟩
  | 109 => ⟨S128x128x128, .f32⟩
  | 110 => ⟨S1x128x128, .f32⟩
  | 111 => ⟨S128x128x128, .f32⟩
  | 112 => ⟨S128x128x128, .f32⟩
  | 113 => ⟨S128x128x128, .f32⟩
  | 114 => ⟨S_, .f32⟩
  | 115 => ⟨S128x128x128, .f32⟩
  | 116 => ⟨S128x128x128, .f32⟩
  | 117 => ⟨S128x128x128, .f32⟩
  | 118 => ⟨S128x128, .i32⟩
  | 119 => ⟨S_, .i32⟩
  | 120 => ⟨S128x128, .i32⟩
  | 121 => ⟨S128x128, .i32⟩
  | 122 => ⟨S128x128, .i32⟩
  | 123 => ⟨S128x128, .i1⟩
  | 124 => ⟨S128x128x128, .i1⟩
  | 125 => ⟨S_, .f32⟩
  | 126 => ⟨S128x128x128, .f32⟩
  | 127 => ⟨S128x128x128, .f32⟩
  | _ => ⟨S320000x128, .f32⟩

abbrev hbmTy0_1 (i : Nat) : BufTy := match i % 128 with
  | 0 => ⟨S_, .f32⟩
  | 1 => ⟨S_, .f32⟩
  | 2 => ⟨S_, .f32⟩
  | 3 => ⟨S_, .f32⟩
  | _ => ⟨S320000x128, .f32⟩

abbrev hbmTy (i : Nat) : BufTy := match i / 128 with
  | 0 => hbmTy0_0 i
  | 1 => hbmTy0_1 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_v28 : Ref sig .tc := ⟨.hbm, 42, rfl⟩
abbrev main_v29 : Ref sig .tc := ⟨.hbm, 43, rfl⟩
abbrev main_cst_11 : Ref sig .tc := ⟨.hbm, 44, rfl⟩
abbrev main_call0_v0 : Ref sig .tc := ⟨.hbm, 45, rfl⟩
abbrev main_call0_v1 : Ref sig .tc := ⟨.hbm, 46, rfl⟩
abbrev main_v30 : Ref sig .tc := ⟨.hbm, 47, rfl⟩
abbrev main_v31 : Ref sig .tc := ⟨.hbm, 48, rfl⟩
abbrev main_cst_12 : Ref sig .tc := ⟨.hbm, 49, rfl⟩
abbrev main_call1_v0 : Ref sig .tc := ⟨.hbm, 50, rfl⟩
abbrev main_call1_v1 : Ref sig .tc := ⟨.hbm, 51, rfl⟩
abbrev main_v32 : Ref sig .tc := ⟨.hbm, 52, rfl⟩
abbrev main_cst_13 : Ref sig .tc := ⟨.hbm, 53, rfl⟩
abbrev main_v33 : Ref sig .tc := ⟨.hbm, 54, rfl⟩
abbrev main_v34 : Ref sig .tc := ⟨.hbm, 55, rfl⟩
abbrev main_c : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_14 : Ref sig .tc := ⟨.hbm, 60, rfl⟩
abbrev main_v38 : Ref sig .tc := ⟨.hbm, 61, rfl⟩
abbrev main_c_15 : Ref sig .tc := ⟨.hbm, 62, rfl⟩
abbrev main_v39 : Ref sig .tc := ⟨.hbm, 63, rfl⟩
abbrev main_c_16 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_17 : Ref sig .tc := ⟨.hbm, 74, rfl⟩
abbrev main_v49 : Ref sig .tc := ⟨.hbm, 75, rfl⟩
abbrev main_cst_18 : Ref sig .tc := ⟨.hbm, 76, rfl⟩
abbrev main_v50 : Ref sig .tc := ⟨.hbm, 77, rfl⟩
abbrev main_v51 : Ref sig .tc := ⟨.hbm, 78, rfl⟩
abbrev main_cst_19 : Ref sig .tc := ⟨.hbm, 79, rfl⟩
abbrev main_call2_v0 : Ref sig .tc := ⟨.hbm, 80, rfl⟩
abbrev main_call2_v1 : Ref sig .tc := ⟨.hbm, 81, rfl⟩
abbrev main_v52 : Ref sig .tc := ⟨.hbm, 82, rfl⟩
abbrev main_v53 : Ref sig .tc := ⟨.hbm, 83, rfl⟩
abbrev main_cst_20 : Ref sig .tc := ⟨.hbm, 84, rfl⟩
abbrev main_call3_v0 : Ref sig .tc := ⟨.hbm, 85, rfl⟩
abbrev main_call3_v1 : Ref sig .tc := ⟨.hbm, 86, rfl⟩
abbrev main_v54 : Ref sig .tc := ⟨.hbm, 87, rfl⟩
abbrev main_v55 : Ref sig .tc := ⟨.hbm, 88, rfl⟩
abbrev main_cst_21 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_22 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call4_v0 : Ref sig .tc := ⟨.hbm, 118, rfl⟩
abbrev main_call4_c : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_cst : Ref sig .tc := ⟨.hbm, 125, rfl⟩
abbrev main_call4_v6 : Ref sig .tc := ⟨.hbm, 126, rfl⟩
abbrev main_v83 : Ref sig .tc := ⟨.hbm, 127, rfl⟩
abbrev main_cst_23 : Ref sig .tc := ⟨.hbm, 128, rfl⟩
abbrev main_v84 : Ref sig .tc := ⟨.hbm, 129, rfl⟩
abbrev main_cst_24 : Ref sig .tc := ⟨.hbm, 130, rfl⟩
abbrev main_v85 : Ref sig .tc := ⟨.hbm, 131, rfl⟩

abbrev nD : Nat := 1
abbrev τ : Topo := Topo.v7x

variable {F : FTy → Type} [FloatOps F]
-- ==== Proof.Step.lean ====
/-
  What one grid point of the kernel leaves in its three running totals, and what the last point leaves in the result
  block, read off the generated frame run as plain expressions of the point's input blocks and of the totals the
  point before left.
-/
module

public import proofs.«01_k».proof.Proof.Gen.KernelIdeal.Frame
public import Idealize.ShloMosaic.Lib.Pipeline.Value
public import Idealize.ShloMosaic.Lib.Tactic

@[expose] public section

noncomputable section

namespace Cert.KernelIdeal.Step

open Cert.KernelIdeal Cert.KernelIdeal.Gen Idealize.ShloMosaic Idealize.ShloMosaic.TcCoe Idealize.SL.Sem

variable {F : FTy → Type} [FloatOps F]

/-- The origin of a two-axis buffer. -/
theorem origin2 : (![0, 0] : Fin 2 → Nat) = fun _ => 0 := funext fun a => by fin_cases a <;> rfl

/-- The origin of a three-axis buffer. -/
theorem origin3 : (![0, 0, 0] : Fin 3 → Nat) = fun _ => 0 := funext fun a => by fin_cases a <;> rfl

section points

variable (c : Dev nD) (i : grid0.Coords)
  (a1 : Memref sig .tc .vmem S16000x128 .f32) (h1 : a1.IsWhole) (a2 : Memref sig .tc .vmem S1x1x16000 .i32) (h2 : a2.IsWhole)
  (a3 : Memref sig .tc .vmem S1x1 .f32) (h3 : a3.IsWhole) (a4 : Memref sig .tc .vmem S128x1 .f32) (h4 : a4.IsWhole)
  (a5 : Memref sig .tc .vmem S128x128 .f32) (h5 : a5.IsWhole) (a6 : Memref sig .tc .vmem S128x128 .f32) (h6 : a6.IsWhole)
  (x : Vec F S16000x128 .f32) (t : Vec F S1x1x16000 .i32)
  (n : Vec F S128x1 .f32) (s q : Vec F S128x128 .f32)

/-- At a middle point the counts grow by the block's counts. -/
theorem counts_mid (hc0 : ¬cond0_0 i) (hc1 : ¬cond0_1 i) :
    sout0_B_0 c i a1 h1 a2 h2 a3 h3 a4 h4 a5 h5 a6 h6 hc0 hc1 x t n s q = k0_pay1 (k0_pay18 t n) := by
  unfold sout0_B_0
  rw [View.read_writes_eq_canon _ _ _ (scover0_B_0 c i a1 h1 a2 h2 a3 h3 a4 h4 a5 h5 a6 h6 hc0 hc1 x t n s q)]
  unfold kernelRun0_B
  dsimp only
  rw [View.canon_unit_zero (S := S128x1) origin2]
  sl_unfold_words
  simp only [View.readAt_eq_ld, h2.read_unread, h4.read_unread, View.ld_unit_zero (S := S128x1) origin2,
    View.ld_unit_zero (S := S1x1x16000) origin3]

/-- At a middle point the sums grow by the block's sums. -/
theorem sums_mid (hc0 : ¬cond0_0 i) (hc1 : ¬cond0_1 i) :
    sout0_B_1 c i a1 h1 a2 h2 a3 h3 a4 h4 a5 h5 a6 h6 hc0 hc1 x t n s q = k0_pay16 x t s := by
  unfold sout0_B_1
  rw [View.read_writes_eq_canon _ _ _ (scover0_B_1 c i a1 h1 a2 h2 a3 h3 a4 h4 a5 h5 a6 h6 hc0 hc1 x t n s q)]
  unfold kernelRun0_B
  dsimp only
  rw [View.canon_unit_zero (S := S128x128) origin2]
  simp only [View.readAt_eq_ld, h1.read_unread, h2.read_unread, h5.read_unread,
    View.ld_unit_zero (S := S128x128) origin2, View.ld_unit_zero (S := S16000x128) origin2,
    View.ld_unit_zero (S := S1x1x16000) origin3]

/-- At a middle point the sums of squares grow by the block's sums of squares. -/
theorem squares_mid (hc0 : ¬cond0_0 i) (hc1 : ¬cond0_1 i) :
    sout0_B_2 c i a1 h1 a2 h2 a3 h3 a4 h4 a5 h5 a6 h6 hc0 hc1 x t n s q = k0_pay17 x t q := by
  unfold sout0_B_2
  rw [View.read_writes_eq_canon _ _ _ (scover0_B_2 c i a1 h1 a2 h2 a3 h3 a4 h4 a5 h5 a6 h6 hc0 hc1 x t n s q)]
  unfold kernelRun0_B
  dsimp only
  rw [View.canon_unit_zero (S := S128x128) origin2]
  simp only [View.readAt_eq_ld, h1.read_unread, h2.read_unread, h6.read_unread,
    View.ld_unit_zero (S := S128x128) origin2, View.ld_unit_zero (S := S16000x128) origin2,
    View.ld_unit_zero (S := S1x1x16000) origin3]

/-- At the first point the counts are the block's counts over a zero start. -/
theorem counts_first (hc0 : cond0_0 i) (hc1 : ¬cond0_1 i) :
    sout0_A_0 c i a1 h1 a2 h2 a3 h3 a4 h4 a5 h5 a6 h6 hc0 hc1 x t = k0_pay1 (k0_pay18 t k0_pay11) := by
  unfold sout0_A_0
  rw [View.read_writes_eq_canon _ _ _ (scover0_A_0 c i a1 h1 a2 h2 a3 h3 a4 h4 a5 h5 a6 h6 hc0 hc1 x t)]
  unfold kernelRun0_A
  dsimp only
  sl_unfold_words
  rw [View.canon_cons_unit_zero (S := S128x1) origin2]
  simp only [View.readCov_unit_zero (S := S128x1) _ origin2, View.readAt_eq_ld, h2.read_unread,
    View.ld_unit_zero (S := S1x1x16000) origin3]

/-- At the first point the sums are the block's sums over a zero start. -/
theorem sums_first (hc0 : cond0_0 i) (hc1 : ¬cond0_1 i) :
    sout0_A_1 c i a1 h1 a2 h2 a3 h3 a4 h4 a5 h5 a6 h6 hc0 hc1 x t = k0_pay16 x t k0_pay12 := by
  unfold sout0_A_1
  rw [View.read_writes_eq_canon _ _ _ (scover0_A_1 c i a1 h1 a2 h2 a3 h3 a4 h4 a5 h5 a6 h6 hc0 hc1 x t)]
  unfold kernelRun0_A
  dsimp only
  sl_unfold_words
  rw [View.canon_cons_unit_zero (S := S128x128) origin2]
  simp only [View.readCov_unit_zero (S := S128x128) _ origin2, View.readAt_eq_ld, h1.read_unread, h2.read_unread,
    View.ld_unit_zero (S := S16000x128) origin2, View.ld_unit_zero (S := S1x1x16000) origin3]

/-- At the first point the sums of squares are the block's sums of squares over a zero start. -/
theorem squares_first (hc0 : cond0_0 i) (hc1 : ¬cond0_1 i) :
    sout0_A_2 c i a1 h1 a2 h2 a3 h3 a4 h4 a5 h5 a6 h6 hc0 hc1 x t = k0_pay17 x t k0_pay13 := by
  unfold sout0_A_2
  rw [View.read_writes_eq_canon _ _ _ (scover0_A_2 c i a1 h1 a2 h2 a3 h3 a4 h4 a5 h5 a6 h6 hc0 hc1 x t)]
  unfold kernelRun0_A
  dsimp only
  sl_unfold_words
  rw [View.canon_cons_unit_zero (S := S128x128) origin2]
  simp only [View.readCov_unit_zero (S := S128x128) _ origin2, View.readAt_eq_ld, h1.read_unread, h2.read_unread,
    View.ld_unit_zero (S := S16000x128) origin2, View.ld_unit_zero (S := S1x1x16000) origin3]

/-- What the last point stores into the result block, of the final totals: the pair table summed over the third id by
    the counted loop, then averaged. -/
def finish (n : Vec F S128x1 .f32) (s q : Vec F S128x128 .f32) : Vec F S1x1 .f32 :=
  k0_pay4 (Scf.fold (k0_pay3 (k0_pay7 n s) (k0_pay8 n s q) (k0_pay9 n s) (k0_pay10 n s q)
    (iota .tc S1x128 32 [1] iota_S1x128_d1_w32)) k0_pay2)

/-- At the last point the result block is the finish of the totals that include the last block. -/
theorem out_last (hc0 : ¬cond0_0 i) (hc1 : cond0_1 i) :
    out0_C_2 c i a1 h1 a2 h2 a3 h3 a4 h4 a5 h5 a6 h6 hc0 hc1 x t n s q
      = finish (k0_pay1 (k0_pay18 t n)) (k0_pay16 x t s) (k0_pay17 x t q) := by
  unfold out0_C_2
  rw [View.read_writes_eq_canon _ _ _ (cover0_C_2 c i a1 h1 a2 h2 a3 h3 a4 h4 a5 h5 a6 h6 hc0 hc1 x t n s q)]
  unfold kernelRun0_C
  dsimp only
  sl_unfold_words
  rw [View.canon_unit_zero (S := S1x1) origin2]
  simp only [View.readCov_unit_zero (S := S128x1) _ origin2, View.readCov_unit_zero (S := S128x128) _ origin2,
    View.readAt_eq_ld, h1.read_unread, h2.read_unread, h4.read_unread, h5.read_unread, h6.read_unread,
    View.ld_unit_zero (S := S128x1) origin2, View.ld_unit_zero (S := S128x128) origin2,
    View.ld_unit_zero (S := S16000x128) origin2, View.ld_unit_zero (S := S1x1x16000) origin3]
  rfl

end points

end Cert.KernelIdeal.Step

end
-- ==== Proof.Totals.lean ====
/-
  The three running totals after each grid point as one recursion over the input blocks, what that makes of the
  kernel's result array, and the whole run of the kernel read at its result.
-/
module

public import proofs.«01_k».proof.Proof.Step

@[expose] public section

noncomputable section

namespace Cert.KernelIdeal.Totals

open Cert.KernelIdeal Cert.KernelIdeal.Gen Cert.KernelIdeal.Step
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The counts after each point. -/
def counts (c : Dev nD) : (n : ℕ) → n < cfg0.N → Vec F S128x1 .f32
  | 0, h => k0_pay1 (k0_pay18 (iblk m c 1 ⟨0, h⟩) k0_pay11)
  | n + 1, h => k0_pay1 (k0_pay18 (iblk m c 1 ⟨n + 1, h⟩) (counts c n (Nat.lt_of_succ_lt h)))

/-- The sums after each point. -/
def sums (c : Dev nD) : (n : ℕ) → n < cfg0.N → Vec F S128x128 .f32
  | 0, h => k0_pay16 (iblk m c 0 ⟨0, h⟩) (iblk m c 1 ⟨0, h⟩) k0_pay12
  | n + 1, h => k0_pay16 (iblk m c 0 ⟨n + 1, h⟩) (iblk m c 1 ⟨n + 1, h⟩) (sums c n (Nat.lt_of_succ_lt h))

/-- The sums of squares after each point. -/
def squares (c : Dev nD) : (n : ℕ) → n < cfg0.N → Vec F S128x128 .f32
  | 0, h => k0_pay17 (iblk m c 0 ⟨0, h⟩) (iblk m c 1 ⟨0, h⟩) k0_pay13
  | n + 1, h => k0_pay17 (iblk m c 0 ⟨n + 1, h⟩) (iblk m c 1 ⟨n + 1, h⟩) (squares c n (Nat.lt_of_succ_lt h))

/-- Before the last point, what the run carries is the three recursions. -/
theorem carried (c : Dev nD) : ∀ (n : ℕ) (h : n < cfg0.N), n < 19 →
    (outsAt0 m c n h).2 = (counts m c n h, sums m c n h, squares m c n h) := by
  intro n
  induction n with
  | zero =>
    intro h _
    have e := outsAt0_A m c ⟨0, h⟩ rfl (by dsimp only; omega)
    dsimp only at e
    rw [e, counts_first, sums_first, squares_first]
    rfl
  | succ n ih =>
    intro h hn
    have e := outsAt0_B m c ⟨n + 1, h⟩ (by dsimp only; omega) (by dsimp only; omega)
    dsimp only [Nat.add_sub_cancel] at e
    rw [e, counts_mid, sums_mid, squares_mid]
    have p := ih (Nat.lt_of_succ_lt h) (by omega)
    simp only [Nat.add_sub_cancel, p]
    rfl

/-- The last of the twenty points. -/
abbrev last : Fin cfg0.N := ⟨19, by rw [show cfg0.N = 20 from N_0]; decide⟩

/-- What the result array ends holding. -/
def result (c : Dev nD) : Vec F S1x1 .f32 :=
  finish (counts m c 19 last.isLt) (sums m c 19 last.isLt) (squares m c 19 last.isLt)

/-- The last point leaves the result in the output block. -/
theorem out_at_last (c : Dev nD) : (outsAt0 m c 19 last.isLt).1 = result m c := by
  have e := outsAt0_C m c last (by decide) rfl
  dsimp only at e
  rw [e, out_last]
  have p := carried m c 18 (Nat.lt_of_succ_lt last.isLt) (by decide)
  dsimp only
  rw [p]
  rfl

/-- The one write-back writes the result over its whole block. -/
theorem written (c : Dev nD) (t : Fin cfg0.N) (hf : (cfg0.win 2).flush t = true) :
    (dats m 0 c).flushed 2 t = ((cfg0.win 2).blk t).view.read (Elt F) (result m c) := by
  have hN : cfg0.N = 20 := N_0
  have h19 : t.val = 19 := by have := (flush0_2 t).mp hf; have := t.isLt; omega
  obtain rfl : t = last := Fin.ext h19
  show (cfg0.win 2).cut (grid0.coords last) ((dats m 0 c).after 2 last) = _
  rw [after0_2, out_at_last]
  have hz : (fun a => win0_2.index last a * main_call0_v1.ty.shape.size a) = fun _ => 0 := funext fun a => by
    fin_cases a <;> decide
  exact (Memref.read_access_unit_zero (Elt F) main_call0_v1 hz (fun a => by rw [congrFun hz a]; simp) (result m c)).symm

/-- The result array ends holding the result. -/
theorem array_end (c : Dev nD) : (dats m 0 c).arrAt 2 cfg0.N = result m c :=
  (dats m 0 c).arrAt_eq_of_cover 2 (result m c) (written m c) fun i =>
    ⟨last, (flush0_2 last).mpr rfl, by
      show i ∈ ((View.whole main_call0_v1).slice (win0_2.rect last)).set
      rw [View.set_slice_whole, Rect.mem_set_unit]
      have b0 : (i 0 : Nat) < 1 := (i 0).isLt
      have b1 : (i 1 : Nat) < 1 := (i 1).isLt
      have start : ∀ a, win0_2.index last a * win0_2.size a = 0 := by decide +kernel
      have len : ∀ a, win0_2.xsize (grid0.coords last) a = 1 := by decide +kernel
      intro a
      refine ⟨(start a).le.trans (Nat.zero_le _), ?_⟩
      show _ < win0_2.index last a * win0_2.size a + win0_2.xsize (grid0.coords last) a
      rw [start, len]
      match a with
      | ⟨0, _⟩ => exact b0
      | ⟨1, _⟩ => exact b1⟩

/-- The host line after the region leaves the result's one element in the returned scalar. -/
theorem scalar_end (c : Dev nD) :
    Pipeline.afterTail₀ cfgs (dats m) 0 (V0 m) [hostOps1] c main_v0 = shapeCast S_ (result m c) shapeCasts_S1x1_S_ := by
  unfold Pipeline.afterTail₀
  have e : Pipeline.withArrays spec0 c (V0 m c) (fun w => (dats m 0 c).arrAt w cfg0.N) (Proc.devRef .tc main_call0_v1)
      = result m c :=
    (Pipeline.withArrays_arr spec0 (by decide) c (V0 m c) (fun w => (dats m 0 c).arrAt w cfg0.N) 2).trans (array_end m c)
  rw [← e]
  simp only [List.flatten_cons, List.flatten_nil, List.append_nil, StableHlo.after_cons, StableHlo.after_nil,
    StableHlo.reshape_result']
  rfl

/-- The whole run: the scalar returned, the arguments unchanged. -/
theorem run : θ_run defs (onTc (τ := τ) (main (F := F))) ⟨m, fun _ => 0, ρ⟩ fun r => ∀ c : Dev nD,
    r.2.mem ((c.tc : Thread nD τ).loc main_v0) = shapeCast S_ (result m c) shapeCasts_S1x1_S_
    ∧ (r.2.mem ((c.tc : Thread nD τ).loc main_arg0) = m ((c.tc : Thread nD τ).loc main_arg0)
      ∧ r.2.mem ((c.tc : Thread nD τ).loc main_arg1) = m ((c.tc : Thread nD τ).loc main_arg1)) := by
  have value : θ_run defs (onTc (τ := τ) (main (F := F))) ⟨m, fun _ => 0, ρ⟩ fun r => ∀ c : Dev nD,
      r.2.mem ((c.tc : Thread nD τ).loc main_v0) = shapeCast S_ (result m c) shapeCasts_S1x1_S_ :=
    (θ_run defs _ _).mono (fun _ h c => ((h c).2 main_v0 (Pipeline.mem_restRefs_of _ (by decide) (by decide))).trans
      (scalar_end m c)) (run_main m ρ)
  exact (θ_run defs _ _).mono (fun _ h c => ⟨h.1 c, h.2 c⟩) (θ_run_and value (unchanged m ρ))

end Cert.KernelIdeal.Totals

end
-- ==== Proof.Segments.lean ====
/-
  The input blocks read at their places in the arguments, and the running totals after the last grid point as sums
  over all the rows.
-/
module

public import proofs.«01_k».proof.Proof.Totals
public import Idealize.ShloMosaic.Lib.Pointwise
public import Idealize.ShloMosaic.Lib.Pipeline.ValueKit.Point

@[expose] public section

noncomputable section

namespace Cert.KernelIdeal.Segments

open Cert.KernelIdeal Cert.KernelIdeal.Gen Cert.KernelIdeal.Totals
open Idealize.ShloMosaic Idealize.ShloMosaic.TcCoe Idealize.SL.Sem

variable (m : (ℓ : Loc nD τ sig) → Buf (Elt Ideal) ℓ)

/-- A row of a block lies among the rows. -/
theorem row_lt (t : Fin cfg0.N) (x : Fin 16000) : t.val * 16000 + x.val < 320000 := by
  have := t.isLt
  have h : cfg0.N = 20 := N_0
  omega

/-- The values' window moves down one block a point and stays in its one block of lanes. -/
theorem rows_index (t : Fin cfg0.N) : win0_0.index t 0 = t.val ∧ win0_0.index t 1 = 0 := by
  revert t
  decide +kernel

/-- The ids' window moves one block a point along its first axis. -/
theorem ids_index (t : Fin cfg0.N) : win0_1.index t 0 = t.val ∧ win0_1.index t 1 = 0 ∧ win0_1.index t 2 = 0 := by
  revert t
  decide +kernel

/-- A value of a block is the argument's at the block's place. -/
theorem value_at (c : Dev nD) (t : Fin cfg0.N) (x : Fin 16000) (l : Fin 128) :
    iblk m c 0 t (ix2 x l) = m ((c.tc : Thread nD τ).loc main_arg0) (ix2 ⟨t.val * 16000 + x.val, row_lt t x⟩ l) := by
  have h := rows_index t
  blk_ext! [iblk, V, h]

/-- The ids' window reads the argument in the grid's shape. -/
theorem ids_entry (c : Dev nD) : (V m c main_call0_v0 : S20x1x16000.Idx → BitVec 32)
    = shapeCast S20x1x16000 (m ((c.tc : Thread nD τ).loc main_arg1)) shapeCasts_S320000_S20x1x16000 := by
  dsimp only [V, V0]
  simp only [List.flatten_cons, List.flatten_nil, List.append_nil, StableHlo.after_cons, StableHlo.after_nil,
    StableHlo.reshape_result']
  rfl

/-- An id of a block is the argument's at the block's place. -/
theorem id_at (c : Dev nD) (t : Fin cfg0.N) (x : Fin 16000) :
    iblk m c 1 t (ix3 0 0 x) = m ((c.tc : Thread nD τ).loc main_arg1) (ix1 ⟨t.val * 16000 + x.val, row_lt t x⟩) := by
  have h := ids_index t
  have e : iblk m c 1 t (ix3 0 0 x) = (V m c main_call0_v0 : S20x1x16000.Idx → BitVec 32)
      (ix3 ⟨t.val, lt_of_lt_of_eq t.isLt N_0⟩ 0 x) := by
    blk_ext! [iblk, h]
  rw [e, ids_entry]
  refine shapeCast_apply _ _ _ _ ?_
  refine (Shape.rowMajor_val_one (d := ![320000]) _).trans ?_
  rw [Shape.rowMajor_val_three]
  show t.val * 16000 + x.val = (t.val * 1 + 0) * 16000 + x.val
  omega

/-- A total that starts at the first tile's sum and grows by each next tile's ends as the sum over everything. -/
theorem grown (A : (n : ℕ) → n < cfg0.N → EReal) (G : ℕ → EReal)
    (first : ∀ h, A 0 h = ∑ x : Fin 16000, G x.val)
    (next : ∀ n (h : n + 1 < cfg0.N), A (n + 1) h = A n (Nat.lt_of_succ_lt h) + ∑ x : Fin 16000, G ((n + 1) * 16000 + x.val)) :
    A 19 last.isLt = ∑ t : Fin 320000, G t.val := by
  have prefixes : ∀ n (h : n < cfg0.N), A n h = ∑ j ∈ Finset.range (n + 1), ∑ x : Fin 16000, G (j * 16000 + x.val) := by
    intro n
    induction n with
    | zero => intro h; rw [first]; simp
    | succ n ih => intro h; rw [next, ih, Finset.sum_range_succ _ (n + 1)]
  rw [prefixes, Finset.sum_range]
  exact (Fin.sum_univ_tiles 20 16000 rfl fun t : Fin 320000 => G t.val).symm

/-! ## One block's addition to the totals -/

/-- The low half of an id in range equals a row number as the id itself does. -/
theorem half_eq (w : BitVec 32) (r : Fin 128) (low : 0 ≤ w.toInt) (high : w.toInt < 127) :
    BitVec.setWidth 16 w = BitVec.ofNat 16 r.val ↔ w.toInt = (r.val : Int) := by
  have hw : w.toInt = (w.toNat : Int) := by
    rw [BitVec.toInt_eq_toNat_cond] at low ⊢
    split at low <;> rename_i h
    · rw [if_pos h]
    · have := w.isLt
      omega
  have hn : w.toNat < 127 := by omega
  have hr := r.isLt
  rw [← BitVec.toNat_inj, BitVec.toNat_setWidth, BitVec.toNat_ofNat, Nat.mod_eq_of_lt (by omega), Nat.mod_eq_of_lt (by omega), hw]
  exact Int.ofNat_inj.symm

/-- The choice by a comparison of halves is the choice by the id. -/
theorem choice (w : BitVec 32) (r : Fin 128) (low : 0 ≤ w.toInt) (high : w.toInt < 127) (a b : EReal) :
    Scalar.select (IntOp.cmpi CmpIPredicate.eq (BitVec.setWidth 16 w) (BitVec.ofNat 16 r.val)) a b
      = if w.toInt = (r.val : Int) then a else b := by
  rw [← if_congr (half_eq w r low high) rfl rfl]
  unfold Scalar.select IntOp.cmpi
  by_cases h : BitVec.setWidth 16 w = BitVec.ofNat 16 r.val
  · simp [h]
  · dsimp only
    rw [beq_false_of_ne h, if_neg h]
    rfl

/-- A block's addition to the counts. -/
theorem counts_step (t : Vec Ideal S1x1x16000 .i32) (s : Vec Ideal S128x1 .f32)
    (range : ∀ x : Fin 16000, 0 ≤ (t (ix3 0 0 x)).toInt ∧ (t (ix3 0 0 x)).toInt < 127) (r : Fin 128) :
    k0_pay1 (k0_pay18 t s) (ix2 r 0)
      = s (ix2 r 0) + ∑ x : Fin 16000, if (t (ix3 0 0 x)).toInt = (r.val : Int) then (1 : EReal) else 0 := by
  pointwise [k0_pay18, k0_pay15, k0_pay1]
  exact congrArg _ (Finset.sum_congr rfl fun x _ => choice _ r (range x).1 (range x).2 _ _)

/-- A block's addition to the sums. -/
theorem sums_step (x : Vec Ideal S16000x128 .f32) (t : Vec Ideal S1x1x16000 .i32) (s : Vec Ideal S128x128 .f32)
    (range : ∀ x : Fin 16000, 0 ≤ (t (ix3 0 0 x)).toInt ∧ (t (ix3 0 0 x)).toInt < 127) (r l : Fin 128) :
    k0_pay16 x t s (ix2 r l)
      = s (ix2 r l) + ∑ k : Fin 16000, if (t (ix3 0 0 k)).toInt = (r.val : Int) then x (ix2 k l) else 0 := by
  pointwise [k0_pay16, k0_pay15, k0_pay14]
  exact congrArg _ (Finset.sum_congr rfl fun x _ => choice _ r (range x).1 (range x).2 _ _)

/-- A block's addition to the sums of squares. -/
theorem squares_step (x : Vec Ideal S16000x128 .f32) (t : Vec Ideal S1x1x16000 .i32) (s : Vec Ideal S128x128 .f32)
    (range : ∀ x : Fin 16000, 0 ≤ (t (ix3 0 0 x)).toInt ∧ (t (ix3 0 0 x)).toInt < 127) (r l : Fin 128) :
    k0_pay17 x t s (ix2 r l)
      = s (ix2 r l) + ∑ k : Fin 16000, if (t (ix3 0 0 k)).toInt = (r.val : Int) then x (ix2 k l) * x (ix2 k l) else 0 := by
  pointwise [k0_pay17, k0_pay15, k0_pay14]
  exact congrArg _ (Finset.sum_congr rfl fun x _ => choice _ r (range x).1 (range x).2 _ _)

/-! ## The totals after the last point -/

/-- The arguments' value at row `t`, lane `l`. -/
abbrev val (c : Dev nD) (t : Fin 320000) (l : Fin 128) : EReal := m ((c.tc : Thread nD τ).loc main_arg0) (ix2 t l)

/-- The arguments' id at row `t`. -/
abbrev key (c : Dev nD) (t : Fin 320000) : Int := BitVec.toInt (n := 32) (m ((c.tc : Thread nD τ).loc main_arg1) (ix1 t))

/-- A function of the rows continued by zero. -/
def extend (f : Fin 320000 → EReal) (n : ℕ) : EReal := if h : n < 320000 then f ⟨n, h⟩ else 0

/-- On a row the continuation is the function. -/
theorem extend_row (f : Fin 320000 → EReal) (n : ℕ) (h : n < 320000) : extend f n = f ⟨n, h⟩ := dif_pos h

section totals

variable (c : Dev nD) (range : ∀ t, 0 ≤ key m c t ∧ key m c t < 127)
include range

/-- A block's ids are in range. -/
theorem block_range (t : Fin cfg0.N) (x : Fin 16000) :
    0 ≤ (iblk m c 1 t (ix3 0 0 x) : BitVec 32).toInt ∧ (iblk m c 1 t (ix3 0 0 x) : BitVec 32).toInt < 127 := by
  rw [id_at]
  exact range _

/-- The counts after the last point. -/
theorem counts_all (r : Fin 128) :
    counts m c 19 last.isLt (ix2 r 0) = ∑ t : Fin 320000, if key m c t = (r.val : Int) then (1 : EReal) else 0 := by
  refine (grown (fun n h => counts m c n h (ix2 r 0)) (extend fun t => if key m c t = (r.val : Int) then (1 : EReal) else 0)
    (fun h => ?_) (fun n h => ?_)).trans (Finset.sum_congr rfl fun t _ => extend_row _ _ t.isLt)
  · show k0_pay1 (k0_pay18 _ _) (ix2 r 0) = _
    rw [counts_step _ _ (block_range m c range _)]
    have z : (k0_pay11 : FVec Ideal S128x1 .f32) (ix2 r 0) = 0 := by pointwise [k0_pay11]
    rw [z, zero_add]
    refine Finset.sum_congr rfl fun x _ => ?_
    rw [id_at, ← extend_row (fun t => if key m c t = (r.val : Int) then (1 : EReal) else 0) _ (row_lt ⟨0, h⟩ x)]
    simp only [Nat.zero_mul, Nat.zero_add]
  · show k0_pay1 (k0_pay18 _ _) (ix2 r 0) = _
    rw [counts_step _ _ (block_range m c range _)]
    refine congrArg _ (Finset.sum_congr rfl fun x _ => ?_)
    rw [id_at, ← extend_row (fun t => if key m c t = (r.val : Int) then (1 : EReal) else 0) _ (row_lt ⟨n + 1, h⟩ x)]

/-- The sums after the last point. -/
theorem sums_all (r l : Fin 128) :
    sums m c 19 last.isLt (ix2 r l) = ∑ t : Fin 320000, if key m c t = (r.val : Int) then val m c t l else 0 := by
  refine (grown (fun n h => sums m c n h (ix2 r l)) (extend fun t => if key m c t = (r.val : Int) then val m c t l else 0)
    (fun h => ?_) (fun n h => ?_)).trans (Finset.sum_congr rfl fun t _ => extend_row _ _ t.isLt)
  · show k0_pay16 _ _ _ (ix2 r l) = _
    rw [sums_step _ _ _ (block_range m c range _)]
    have z : (k0_pay12 : FVec Ideal S128x128 .f32) (ix2 r l) = 0 := by pointwise [k0_pay12]
    rw [z, zero_add]
    refine Finset.sum_congr rfl fun x _ => ?_
    rw [id_at, value_at, ← extend_row (fun t => if key m c t = (r.val : Int) then val m c t l else 0) _ (row_lt ⟨0, h⟩ x)]
    simp only [Nat.zero_mul, Nat.zero_add]
  · show k0_pay16 _ _ _ (ix2 r l) = _
    rw [sums_step _ _ _ (block_range m c range _)]
    refine congrArg _ (Finset.sum_congr rfl fun x _ => ?_)
    rw [id_at, value_at, ← extend_row (fun t => if key m c t = (r.val : Int) then val m c t l else 0) _ (row_lt ⟨n + 1, h⟩ x)]

/-- The sums of squares after the last point. -/
theorem squares_all (r l : Fin 128) : squares m c 19 last.isLt (ix2 r l)
    = ∑ t : Fin 320000, if key m c t = (r.val : Int) then val m c t l * val m c t l else 0 := by
  refine (grown (fun n h => squares m c n h (ix2 r l))
    (extend fun t => if key m c t = (r.val : Int) then val m c t l * val m c t l else 0)
    (fun h => ?_) (fun n h => ?_)).trans (Finset.sum_congr rfl fun t _ => extend_row _ _ t.isLt)
  · show k0_pay17 _ _ _ (ix2 r l) = _
    rw [squares_step _ _ _ (block_range m c range _)]
    have z : (k0_pay13 : FVec Ideal S128x128 .f32) (ix2 r l) = 0 := by pointwise [k0_pay13]
    rw [z, zero_add]
    refine Finset.sum_congr rfl fun x _ => ?_
    rw [id_at, value_at,
      ← extend_row (fun t => if key m c t = (r.val : Int) then val m c t l * val m c t l else 0) _ (row_lt ⟨0, h⟩ x)]
    simp only [Nat.zero_mul, Nat.zero_add]
  · show k0_pay17 _ _ _ (ix2 r l) = _
    rw [squares_step _ _ _ (block_range m c range _)]
    refine congrArg _ (Finset.sum_congr rfl fun x _ => ?_)
    rw [id_at, value_at,
      ← extend_row (fun t => if key m c t = (r.val : Int) then val m c t l * val m c t l else 0) _ (row_lt ⟨n + 1, h⟩ x)]

end totals

end Cert.KernelIdeal.Segments

end
-- ==== Proof.Equation.lean ====
/-
  The equation between the two ways of writing the pair loss, over the extended reals: a mean and a nonnegative spread
  for each id, a pair table scaled by the spreads, and the average of the ratio over the pairs `j < k`. One side works
  on the scalar difference of two means, the other on that difference repeated along 128 lanes.
-/
module

public import Idealize.ShloMosaic.PureOps.Ideal.Laws
public import Idealize.ShloMosaic.Lib.IdealHost

@[expose] public section

noncomputable section

namespace Cert.PairLoss

open Idealize.ShloMosaic
open scoped BigOperators

/-- The lane count as the programs write it. -/
abbrev lanes : EReal := Ideal.ofBits .f32 0x43000000#32

/-- The small number added to a divisor. -/
abbrev tiny : EReal := Ideal.ofBits .f32 0x3727C5AC#32

/-- The lane count is the number 128. -/
theorem lanes_eq : lanes = ((128 : ℕ) : EReal) := by
  have h : lanes = ((128 : ℝ) : EReal) := by
    simp [lanes, Ideal.ofBits, Ideal.ieee]
    rw [← EReal.coe_mul, EReal.coe_eq_coe_iff]
    norm_num
  rw [h]; norm_cast

/-- The small number is positive. -/
theorem tiny_pos : 0 < tiny := by
  simp [tiny, Ideal.ofBits, Ideal.ieee]
  rw [← EReal.coe_mul, EReal.coe_pos]
  norm_num

/-- A square is not negative. -/
theorem square_nonneg (d : EReal) : 0 ≤ d * d := by
  rcases le_total 0 d with h | h
  · exact mul_nonneg h h
  · have : 0 ≤ -d := by simpa using h
    simpa using mul_nonneg this this

/-- The root of a nonnegative number is not negative. -/
theorem root_nonneg {x : EReal} (h : 0 ≤ x) : 0 ≤ Ideal.sqrt x := by
  induction x with
  | bot => exact absurd h (by simp)
  | top => exact h
  | coe r =>
    have hr : 0 ≤ r := by exact_mod_cast h
    show 0 ≤ if r < 0 then (⊥ : EReal) else (Real.sqrt r : EReal)
    rw [if_neg (not_lt.2 hr)]
    exact_mod_cast Real.sqrt_nonneg r

/-- The difference of two numbers squares to the same either way round. -/
theorem square_swap (a b : EReal) : (a - b) * (a - b) = (b - a) * (b - a) := by
  induction a with
  | bot => induction b <;> simp
  | top => induction b <;> simp
  | coe x =>
    induction b with
    | bot => simp
    | top => simp
    | coe y =>
      norm_cast
      ring

/-- A nonnegative factor comes out of an absolute value. -/
theorem abs_scale {s : EReal} (h : 0 ≤ s) (x : EReal) : max (s * x) (-(s * x)) = max x (-x) * s := by
  have mono : Monotone fun y : EReal => y * s := fun a b hab => mul_le_mul_of_nonneg_right hab h
  rw [mono.map_max, mul_comm s x, neg_mul]

/-! ## Means and spreads -/

/-- The mean of the elements of `n` rows whose lanes add up to `s`. -/
def meanOf (n s : EReal) : EReal := Ideal.div s (max (n * lanes) 1)

/-- The spread of the elements of `n` rows with sum `s` and sum of squares `q`: nothing for at most one row. -/
def spreadOf (n s q : EReal) : EReal :=
  if 1 < n then
    Ideal.sqrt (max (Ideal.div (q - n * lanes * meanOf n s * meanOf n s) (max (n * lanes - 1) 1)) 0)
  else 0

/-- A spread is not negative. -/
theorem spreadOf_nonneg (n s q : EReal) : 0 ≤ spreadOf n s q := by
  unfold spreadOf
  split
  · exact root_nonneg (le_max_right _ _)
  · exact le_refl _

/-- No rows have mean zero. -/
theorem meanOf_none : meanOf 0 0 = 0 := by
  unfold meanOf Ideal.div
  rw [zero_mul, max_eq_right zero_le_one, if_neg one_ne_zero, zero_mul]

/-- No rows have no spread. -/
theorem spreadOf_none (s q : EReal) : spreadOf 0 s q = 0 := if_neg (not_lt.2 zero_le_one)

/-! ## The kernel's way -/

section forms

variable (mean spread : Fin 128 → EReal)

/-- The distance of two means, over 128 equal lanes. -/
def dist (i j : Fin 128) : EReal := Ideal.sqrt (lanes * (mean j - mean i) * (mean j - mean i))

/-- The absolute difference of two means over their distance. -/
def unit (i j : Fin 128) : EReal :=
  Ideal.div (max (mean j - mean i) (-(mean j - mean i))) (dist mean i j + tiny)

/-- The ratio at `(i, j, k)`. -/
def ratio (i j k : Fin 128) : EReal :=
  Ideal.div (unit mean i j * spread j + unit mean i j * spread k)
    (dist mean k j + tiny + (unit mean i j * spread j + unit mean i j * spread k))

/-- The ratios over the pairs `j < k`, added up. -/
def total : EReal := ∑ i : Fin 128, ∑ j : Fin 128, ∑ k : Fin 128, if j < k then ratio mean spread i j k else 0

/-! ## The reference's way -/

/-- The squared distance of two means repeated along the lanes. -/
def refSquare (i j : Fin 128) : EReal := ∑ _l : Fin 128, (mean j - mean i) * (mean j - mean i)

/-- The distance, with the root taken only off zero. -/
def refDist (i j : Fin 128) : EReal :=
  if 0 < refSquare mean i j then Ideal.sqrt (if 0 < refSquare mean i j then refSquare mean i j else 1) else 0

/-- The signed difference over the distance. -/
def refUnit (i j : Fin 128) : EReal := Ideal.div (mean j - mean i) (refDist mean i j + tiny)

/-- A spread times the unit difference, made positive. -/
def refPart (i j k : Fin 128) : EReal :=
  max (spread k * refUnit mean i j) (-(spread k * refUnit mean i j))

/-- The ratio at `(i, j, k)`. -/
def refRatio (i j k : Fin 128) : EReal :=
  Ideal.div (refPart mean spread i j j + refPart mean spread i j k)
    (refDist mean j k + refPart mean spread i j j + refPart mean spread i j k + tiny)

/-! ## They agree -/

/-- The lanes' sum is the lane count times the square. -/
theorem refSquare_eq (i j : Fin 128) : refSquare mean i j = lanes * (mean j - mean i) * (mean j - mean i) := by
  unfold refSquare
  rw [Finset.sum_const, Finset.card_univ, Fintype.card_fin, EReal.nsmul_eq_mul, lanes_eq, mul_assoc]

/-- The squared distance is not negative. -/
theorem refSquare_nonneg (i j : Fin 128) : 0 ≤ refSquare mean i j :=
  Finset.sum_nonneg fun _ _ => square_nonneg _

/-- The distances agree. -/
theorem refDist_eq (i j : Fin 128) : refDist mean i j = dist mean i j := by
  unfold refDist dist
  rw [← refSquare_eq]
  split
  · rfl
  · next h =>
    have z : refSquare mean i j = 0 := le_antisymm (not_lt.1 h) (refSquare_nonneg mean i j)
    rw [z]
    show (0 : EReal) = if (0 : ℝ) < 0 then (⊥ : EReal) else (Real.sqrt 0 : EReal)
    simp

/-- The distance does not depend on the order. -/
theorem dist_swap (i j : Fin 128) : dist mean i j = dist mean j i := by
  unfold dist
  rw [mul_assoc, mul_assoc, square_swap]

/-- The divisor is positive. -/
theorem divisor_pos (i j : Fin 128) : 0 < dist mean i j + tiny := by
  have h : 0 ≤ dist mean i j := root_nonneg (by rw [← refSquare_eq]; exact refSquare_nonneg mean i j)
  exact lt_of_lt_of_le tiny_pos (le_add_of_nonneg_left h)

/-- The scaled unit differences agree where the spread is not negative. -/
theorem refPart_eq (i j k : Fin 128) (h : 0 ≤ spread k) :
    refPart mean spread i j k = unit mean i j * spread k := by
  unfold refPart refUnit unit Ideal.div
  rw [refDist_eq, if_neg (divisor_pos mean i j).ne', if_neg (divisor_pos mean i j).ne', abs_scale h, mul_comm _ (_⁻¹),
    mul_comm _ (_⁻¹), mul_comm (_⁻¹) (mean j - mean i), mul_comm (mean j - mean i) (_⁻¹)]
  have e := abs_scale (EReal.inv_nonneg_of_nonneg (divisor_pos mean i j).le) (mean j - mean i)
  rw [e, mul_comm (max _ _)]

/-- The ratios agree. -/
theorem refRatio_eq (nonneg : ∀ k, 0 ≤ spread k) (i j k : Fin 128) :
    refRatio mean spread i j k = ratio mean spread i j k := by
  unfold refRatio ratio
  rw [refPart_eq mean spread i j j (nonneg j), refPart_eq mean spread i j k (nonneg k), refDist_eq, dist_swap mean j k]
  congr 1
  ac_rfl

end forms

end Cert.PairLoss
end
-- ==== Proof.Finish.lean ====
/-
  The result block in closed form: the means and spreads of the totals, and the ratios added up over the pairs.
-/
module

public import proofs.«01_k».proof.Proof.Step
public import proofs.«01_k».proof.Proof.Equation
public import Idealize.ShloMosaic.Lib.Pointwise

@[expose] public section

noncomputable section

namespace Cert.KernelIdeal.Finish

open Cert.KernelIdeal Cert.KernelIdeal.Gen Cert.KernelIdeal.Step Cert.PairLoss Idealize.ShloMosaic

/-- A running array to which each trip adds at an index ends with the sum of the additions. -/
theorem fold_sum {n : ℕ} {I : Type} (i : I) (term : Fin n → EReal) (g : Fin n → (I → EReal) → I → EReal)
    (step : ∀ k acc, g k acc i = acc i + term k) (init : I → EReal) : Scf.fold g init i = init i + ∑ k, term k := by
  rw [Scf.fold_eq, Fin.sum_univ_def]
  generalize List.finRange n = ks
  induction ks generalizing init with
  | nil => simp
  | cons k ks ih => rw [List.foldl_cons, ih, step, List.map_cons, List.sum_cons, add_assoc]

/-- The loop runs over the 128 columns. -/
theorem trips_eq : k0_t1_loop.trips = 128 := by decide +kernel

/-- The column of a trip. -/
abbrev column (k : Fin k0_t1_loop.trips) : Fin 128 := Fin.cast trips_eq k

/-- A flag widened and made a number. -/
theorem flag_word (p : Prop) [Decidable p] :
    (FloatOps.sitofp (F := Ideal) FTy.f32 (BitVec.setWidth 32 (if p then 1#1 else 0#1)) : EReal) = if p then 1 else 0 := by
  show (((BitVec.setWidth 32 (if p then 1#1 else 0#1)).toInt : ℝ) : EReal) = _
  split <;> simp

/-- The flag of a lane being the trip's column. -/
theorem flag_eq (x : Fin 128) (k : Fin k0_t1_loop.trips) :
    (FloatOps.sitofp (F := Ideal) FTy.f32 (BitVec.setWidth 32 (IntOp.cmpi .eq (BitVec.ofNat 32 x.val) (Scf.iv 0#32 1#32 k.val))) : EReal)
      = if x = column k then 1 else 0 := by
  have same : IntOp.cmpi .eq (BitVec.ofNat 32 x.val) (Scf.iv 0#32 1#32 k.val) = if x = column k then 1#1 else 0#1 := by
    generalize hc : column k = j
    have hj : k.val = j.val := congrArg Fin.val hc
    rw [hj]
    clear hc hj
    revert x j
    decide +kernel
  rw [same, flag_word]

/-- The flag of a lane lying before the trip's column. -/
theorem flag_lt (x : Fin 128) (k : Fin k0_t1_loop.trips) :
    (FloatOps.sitofp (F := Ideal) FTy.f32 (BitVec.setWidth 32 (IntOp.cmpi .slt (BitVec.ofNat 32 x.val) (Scf.iv 0#32 1#32 k.val))) : EReal)
      = if x < column k then 1 else 0 := by
  have below : IntOp.cmpi .slt (BitVec.ofNat 32 x.val) (Scf.iv 0#32 1#32 k.val) = if x < column k then 1#1 else 0#1 := by
    generalize hc : column k = j
    have hj : k.val = j.val := congrArg Fin.val hc
    rw [hj]
    clear hc hj
    revert x j
    decide +kernel
  rw [below, flag_word]

/-- A lane picked out by its flag. -/
theorem picked (f : Fin 128 → EReal) (k : Fin k0_t1_loop.trips) :
    ∑ x : Fin 128, (FloatOps.sitofp (F := Ideal) FTy.f32 (BitVec.setWidth 32 (IntOp.cmpi .eq (BitVec.ofNat 32 x.val) (Scf.iv 0#32 1#32 k.val))) : EReal) * f x
      = f (column k) := by
  simp only [flag_eq, ite_mul, one_mul, zero_mul, Finset.sum_ite_eq', Finset.mem_univ, if_true]

section

variable (n : Vec Ideal S128x1 .f32) (s q : Vec Ideal S128x128 .f32)

/-- The mean of a row. -/
def mean (r : Fin 128) : EReal := meanOf (n (ix2 r 0)) (∑ l : Fin 128, s (ix2 r l))

/-- The spread of a row. -/
def spread (r : Fin 128) : EReal :=
  spreadOf (n (ix2 r 0)) (∑ l : Fin 128, s (ix2 r l)) (∑ l : Fin 128, q (ix2 r l))

/-- The means down a column. -/
theorem mean_column (r : Fin 128) : k0_pay6 (F := Ideal) n s (ix2 r 0) = mean n s r := by
  pointwise [k0_pay6, k0_pay5]
  rfl

/-- The means along a row. -/
theorem mean_row (r : Fin 128) : k0_pay7 (F := Ideal) n s (ix2 0 r) = mean n s r := by
  rw [← mean_column]
  pointwise [k0_pay7]

/-- The spreads along a row. -/
theorem spread_row (r : Fin 128) : k0_pay8 (F := Ideal) n s q (ix2 0 r) = spread n s q r := by
  pointwise [k0_pay8, k0_pay5]
  rw [mean_column]
  rfl

/-- The unit differences. -/
theorem units (r l : Fin 128) : k0_pay9 (F := Ideal) n s (ix2 r l) = unit (mean n s) r l := by
  pointwise [k0_pay9, k0_pay7]
  rw [mean_column, mean_column]
  rfl

/-- The scaled unit differences. -/
theorem scaled (r l : Fin 128) : k0_pay10 (F := Ideal) n s q (ix2 r l) = unit (mean n s) r l * spread n s q l := by
  rw [← units, ← spread_row]
  pointwise [k0_pay10]

/-- What a trip adds. -/
theorem trip (r l : Fin 128) (k : Fin k0_t1_loop.trips) (acc : FVec Ideal S128x128 .f32) :
    k0_pay3 (F := Ideal) (k0_pay7 n s) (k0_pay8 (F := Ideal) n s q) (k0_pay9 (F := Ideal) n s) (k0_pay10 (F := Ideal) n s q) (iota .tc S1x128 32 [1] iota_S1x128_d1_w32) k acc (ix2 r l)
      = acc (ix2 r l) + if l < column k then ratio (mean n s) (spread n s q) r l (column k) else 0 := by
  generalize hme : k0_pay7 (F := Ideal) n s = me
  generalize hst : k0_pay8 (F := Ideal) n s q = st
  generalize ha : k0_pay9 (F := Ideal) n s = a
  generalize hp : k0_pay10 (F := Ideal) n s q = p
  pointwise [k0_pay3]
  simp only [picked (fun x => st (ix2 0 x)), picked (fun x => me (ix2 0 x)), flag_lt, Finset.univ_unique, Finset.sum_singleton]
  subst hme hst ha hp
  simp only [mean_row, spread_row, units, scaled, mul_ite, mul_one, mul_zero]
  rfl

/-- The result block's one element. -/
theorem finish_eq : finish (F := Ideal) n s q (ix2 0 0) = Ideal.div (total (mean n s) (spread n s q)) (Ideal.ofBits .f32 0x4A000000#32) := by
  unfold finish
  generalize hf : Scf.fold _ _ = f
  have e : k0_pay4 f (ix2 0 0) = Ideal.div (∑ r : Fin 128, ∑ l : Fin 128, f (ix2 r l)) (Ideal.ofBits .f32 0x4A000000#32) := by
    pointwise [k0_pay4]
  rw [e]
  unfold total
  refine congrArg (Ideal.div · _) (Finset.sum_congr rfl fun r _ => Finset.sum_congr rfl fun l _ => ?_)
  rw [← hf, fold_sum (ix2 r l) _ _ (trip n s q r l)]
  have z : (k0_pay2 : FVec Ideal S128x128 .f32) (ix2 r l) = 0 := by pointwise [k0_pay2]
  rw [z, zero_add]
  exact Fintype.sum_equiv (finCongr trips_eq) _ _ fun k => rfl

end

end Cert.KernelIdeal.Finish

end
-- ==== Proof.Loss.lean ====
/-
  The loss as a function of the rows' values and keys: both programs' common value.
-/
module

public import proofs.«01_k».proof.Proof.Equation

@[expose] public section

noncomputable section

namespace Cert.PairLoss

open Idealize.ShloMosaic

section

variable (key : Fin 320000 → Int) (val : Fin 320000 → Fin 128 → EReal)

/-- How many rows carry the key `r`. -/
def rowsOf (r : Fin 128) : EReal := ∑ t : Fin 320000, if key t = (r.val : Int) then 1 else 0

/-- The sum of the elements of the rows that carry the key `r`. -/
def sumOf (r : Fin 128) : EReal := ∑ t : Fin 320000, if key t = (r.val : Int) then ∑ l : Fin 128, val t l else 0

/-- The mean of the elements of the rows that carry the key `r`. -/
def meanAt (r : Fin 128) : EReal := meanOf (rowsOf key r) (sumOf key val r)

/-- The spread of the elements of the rows that carry the key `r`. -/
def spreadAt (r : Fin 128) : EReal :=
  spreadOf (rowsOf key r) (sumOf key val r) (sumOf key (fun t l => val t l * val t l) r)

/-- The loss. -/
def loss : EReal := Ideal.div (total (meanAt key val) (spreadAt key val)) (Ideal.ofBits .f32 0x4A000000#32)

/-- Adding up row by row is adding up lane by lane. -/
theorem sumOf_lanes (r : Fin 128) :
    sumOf key val r = ∑ l : Fin 128, ∑ t : Fin 320000, if key t = (r.val : Int) then val t l else 0 := by
  unfold sumOf
  rw [Finset.sum_comm]
  refine Finset.sum_congr rfl fun t _ => ?_
  split
  · rfl
  · exact Finset.sum_const_zero.symm

/-- A key no row carries has no rows. -/
theorem rowsOf_none (r : Fin 128) (none : ∀ t, key t ≠ (r.val : Int)) : rowsOf key r = 0 :=
  Finset.sum_eq_zero fun t _ => if_neg (none t)

/-- A key no row carries has sum zero. -/
theorem sumOf_none (r : Fin 128) (none : ∀ t, key t ≠ (r.val : Int)) : sumOf key val r = 0 :=
  Finset.sum_eq_zero fun t _ => if_neg (none t)

/-- A key no row carries has mean zero. -/
theorem meanAt_none (r : Fin 128) (none : ∀ t, key t ≠ (r.val : Int)) : meanAt key val r = 0 := by
  unfold meanAt
  rw [rowsOf_none key r none, sumOf_none key val r none, meanOf_none]

/-- A key no row carries has no spread. -/
theorem spreadAt_none (r : Fin 128) (none : ∀ t, key t ≠ (r.val : Int)) : spreadAt key val r = 0 := by
  unfold spreadAt
  rw [rowsOf_none key r none, spreadOf_none]

end

end Cert.PairLoss

end
-- ==== Proof.KernelLoss.lean ====
/-
  The kernel's result block is the loss of its arguments, when the ids are in range.
-/
module

public import proofs.«01_k».proof.Proof.Segments
public import proofs.«01_k».proof.Proof.Finish
public import proofs.«01_k».proof.Proof.Loss

@[expose] public section

noncomputable section

namespace Cert.KernelIdeal.KernelLoss

open Cert.KernelIdeal Cert.KernelIdeal.Gen Cert.KernelIdeal.Totals Cert.KernelIdeal.Segments Cert.PairLoss
open Idealize.ShloMosaic Idealize.ShloMosaic.TcCoe Idealize.SL.Sem

variable (m : (ℓ : Loc nD τ sig) → Buf (Elt Ideal) ℓ) (c : Dev nD) (range : ∀ t, 0 ≤ key m c t ∧ key m c t < 127)
include range

/-- The means of the final totals. -/
theorem mean_eq : Finish.mean (counts m c 19 last.isLt) (sums m c 19 last.isLt) = meanAt (key m c) (val m c) := by
  funext r
  unfold Finish.mean meanAt
  rw [counts_all m c range, sumOf_lanes]
  simp only [sums_all m c range]
  rfl

/-- The spreads of the final totals. -/
theorem spread_eq : Finish.spread (counts m c 19 last.isLt) (sums m c 19 last.isLt) (squares m c 19 last.isLt)
    = spreadAt (key m c) (val m c) := by
  funext r
  unfold Finish.spread spreadAt
  rw [counts_all m c range, sumOf_lanes, sumOf_lanes]
  simp only [sums_all m c range, squares_all m c range]
  rfl

/-- The returned scalar is the loss. -/
theorem result_eq (s : S_.Idx) :
    shapeCast S_ (result m c) shapeCasts_S1x1_S_ s = loss (key m c) (val m c) := by
  have e : shapeCast S_ (result m c) shapeCasts_S1x1_S_ s = result m c (ix2 0 0) :=
    congrArg (result m c) (funext fun a => match a with
      | ⟨0, _⟩ => Subsingleton.elim (α := Fin 1) _ _
      | ⟨1, _⟩ => Subsingleton.elim (α := Fin 1) _ _)
  rw [e]
  unfold result loss
  rw [Finish.finish_eq, mean_eq m c range, spread_eq m c range]

end Cert.KernelIdeal.KernelLoss

end
-- ==== Proof.Scatter.lean ====
/-
  Where the reference's three scatters put their updates: the accumulating scatter of row values by id, and the two
  that set the first 127 entries of a zero array.
-/
module

public import proofs.«01_k».proof.Proof.Gen.ReferenceIdeal.Run
public import Idealize.ShloMosaic.Lib.Routing.OpsOne
public import Idealize.ShloMosaic.Lib.Pointwise

@[expose] public section

noncomputable section

namespace Cert.ReferenceIdeal.Scatter

open Cert.ReferenceIdeal Cert.ReferenceIdeal.Gen Idealize.ShloMosaic

/-- Row `t`'s value lands in the entry its id names, and nowhere else. -/
theorem row_lands (ids : IVec S320000 32) (t : S320000.Idx) (r : S127.Idx) :
    scatter_S127_S320000x1_S320000_n_0_0_1.resultIdx? t (broadcastInDim S320000x1 ![0] bcast_S320000_S320000x1_0 ids) = some r
      ↔ (ids t).toInt = ((r 0).val : Int) := by
  rw [Routing.resultIdx?_eq_some]
  have start : scatter_S127_S320000x1_S320000_n_0_0_1.start t
      (broadcastInDim S320000x1 ![0] bcast_S320000_S320000x1_0 ids) 0 = (ids t).toInt := by
    show (ids _).toInt = (ids t).toInt
    congr 2
    funext a
    match a with
    | ⟨0, _⟩ => rfl
  have window : scatter_S127_S320000x1_S320000_n_0_0_1.window t 0 = 0 := rfl
  constructor
  · intro h
    have := h 0
    rw [start, window] at this
    simpa using this
  · intro h a
    match a with
    | ⟨0, _⟩ =>
      show scatter_S127_S320000x1_S320000_n_0_0_1.start t _ 0 + ((scatter_S127_S320000x1_S320000_n_0_0_1.window t 0 : Nat) : Int) = _
      rw [start, window]
      simpa using h

/-- An accumulating scatter by id: the start plus the sum of the values of the rows that carry the id. -/
theorem by_id (z : FVec Ideal S127 .f32) (ids : IVec S320000 32) (v : FVec Ideal S320000 .f32) (r : S127.Idx) :
    Host.scatterAdd scatter_S127_S320000x1_S320000_n_0_0_1 z
        (broadcastInDim S320000x1 ![0] bcast_S320000_S320000x1_0 ids) v r
      = z r + ∑ t : S320000.Idx, if (ids t).toInt = ((r 0).val : Int) then v t else 0 := by
  show Ideal.hostScatterAdd _ _ _ _ _ = _
  unfold Ideal.hostScatterAdd
  rw [Finset.sum_filter]
  exact congrArg (z r + ·) (Finset.sum_congr rfl fun t _ => if_congr (row_lands ids t r) rfl rfl)

/-- With zero index words, entry `k` of the 127 lands in row `k` of the one column. -/
theorem column_lands (idx : IVec S2 32) (zero : ∀ p, idx p = 0#32) (k : S127.Idx) (r : Fin 128) :
    scatter_S128x1_S2_S127_0_1_01_0.resultIdx? k idx = some (ix2 r 0) ↔ (k 0).val = r.val := by
  rw [Routing.resultIdx?_eq_some]
  have start : ∀ a, scatter_S128x1_S2_S127_0_1_01_0.start k idx a = 0 := fun a => by
    unfold ScatterDims.start
    split
    · rw [zero]; rfl
    · rfl
  have down : scatter_S128x1_S2_S127_0_1_01_0.window k 0 = (k 0).val := rfl
  have across : scatter_S128x1_S2_S127_0_1_01_0.window k 1 = 0 := rfl
  constructor
  · intro h
    have := h 0
    rw [start, down, zero_add] at this
    exact Int.ofNat_inj.1 this
  · intro h a
    match a with
    | ⟨0, _⟩ => exact (congrArg₂ (· + ·) (start 0) (congrArg Int.ofNat (down.trans h))).trans (zero_add _)
    | ⟨1, _⟩ => exact (congrArg₂ (· + ·) (start 1) (congrArg Int.ofNat across)).trans (zero_add _)

/-- Setting the first 127 entries of a column: those entries, then the column's own last one. -/
theorem set_column {α : Type} (z : S128x1.Idx → α) (idx : IVec S2 32) (zero : ∀ p, idx p = 0#32) (v : S127.Idx → α)
    (r : Fin 128) :
    Host.scatter scatter_S128x1_S2_S127_0_1_01_0 (fun _ b => b) z idx v (ix2 r 0)
      = if h : r.val < 127 then v (ix1 ⟨r.val, h⟩) else z (ix2 r 0) := by
  split
  · next h =>
    refine Routing.scatter_set_hit _ z idx v _ _ (fun k hk => ?_) (ix1 ⟨r.val, h⟩) ((column_lands idx zero _ r).2 rfl)
    have e := (column_lands idx zero k r).1 hk
    refine congrArg v (funext fun a => ?_)
    match a with
    | ⟨0, _⟩ => exact Fin.ext e
  · next h =>
    refine Routing.scatter_set_miss _ z idx v _ fun k hk => h ?_
    rw [← (column_lands idx zero k r).1 hk]
    exact (k 0).isLt

/-- With a zero index word, entry `k` of the 127 rows lands where its own coordinates say. -/
theorem rows_land (idx : IVec S1 32) (zero : ∀ p, idx p = 0#32) (k : S127x128.Idx) (r l : Fin 128) :
    scatter_S128x128_S1_S127x128_01_n_0_0.resultIdx? k idx = some (ix2 r l) ↔ (k 0).val = r.val ∧ (k 1).val = l.val := by
  rw [Routing.resultIdx?_eq_some]
  have start : ∀ a, scatter_S128x128_S1_S127x128_01_n_0_0.start k idx a = 0 := fun a => by
    unfold ScatterDims.start
    split
    · rw [zero]; rfl
    · rfl
  have down : scatter_S128x128_S1_S127x128_01_n_0_0.window k 0 = (k 0).val := rfl
  have across : scatter_S128x128_S1_S127x128_01_n_0_0.window k 1 = (k 1).val := rfl
  constructor
  · intro h
    have h0 := h 0
    have h1 := h 1
    rw [start, down, zero_add] at h0
    rw [start, across, zero_add] at h1
    exact ⟨Int.ofNat_inj.1 h0, Int.ofNat_inj.1 h1⟩
  · intro h a
    match a with
    | ⟨0, _⟩ => exact (congrArg₂ (· + ·) (start 0) (congrArg Int.ofNat (down.trans h.1))).trans (zero_add _)
    | ⟨1, _⟩ => exact (congrArg₂ (· + ·) (start 1) (congrArg Int.ofNat (across.trans h.2))).trans (zero_add _)

/-- Setting the first 127 rows of a square: those rows, then the square's own last one. -/
theorem set_rows {α : Type} (z : S128x128.Idx → α) (idx : IVec S1 32) (zero : ∀ p, idx p = 0#32) (v : S127x128.Idx → α)
    (r l : Fin 128) :
    Host.scatter scatter_S128x128_S1_S127x128_01_n_0_0 (fun _ b => b) z idx v (ix2 r l)
      = if h : r.val < 127 then v (ix2 ⟨r.val, h⟩ l) else z (ix2 r l) := by
  split
  · next h =>
    refine Routing.scatter_set_hit _ z idx v _ _ (fun k hk => ?_) (ix2 ⟨r.val, h⟩ l) ((rows_land idx zero _ r l).2 ⟨rfl, rfl⟩)
    have e := (rows_land idx zero k r l).1 hk
    refine congrArg v (funext fun a => ?_)
    match a with
    | ⟨0, _⟩ => exact Fin.ext e.1
    | ⟨1, _⟩ => exact Fin.ext e.2
  · next h =>
    refine Routing.scatter_set_miss _ z idx v _ fun k hk => h ?_
    rw [← ((rows_land idx zero k r l).1 hk).1]
    exact (k 0).isLt

end Cert.ReferenceIdeal.Scatter

end
-- ==== Proof.Means.lean ====
/-
  The reference's means and counts by id.
-/
module

public import proofs.«01_k».proof.Proof.Scatter
public import proofs.«01_k».proof.Proof.Loss

@[expose] public section

noncomputable section

namespace Cert.ReferenceIdeal.Means

open Cert.ReferenceIdeal Cert.ReferenceIdeal.Gen Cert.ReferenceIdeal.Value Cert.PairLoss Idealize.ShloMosaic Idealize.SL.Sem

variable (V0 : Valuation τ sig (Elt Ideal))

/-- The argument's value at row `t`, lane `l`. -/
abbrev val (t : Fin 320000) (l : Fin 128) : EReal := V0 (Proc.devRef .tc main_arg0) (ix2 t l)

/-- The argument's id at row `t`. -/
abbrev key (t : Fin 320000) : Int := BitVec.toInt (n := 32) (V0 (Proc.devRef .tc main_arg1) (ix1 t))

/-- The first 127 of 128 keys. -/
abbrev low (k : Fin 127) : Fin 128 := k.castSucc

/-- Values by row gathered by id into zeros. -/
theorem gathered (v : FVec Ideal S320000 .f32) (k : Fin 127) :
    Host.scatterAdd scatter_S127_S320000x1_S320000_n_0_0_1 (broadcastInDim S127 ![] bcast_S_S127 (constant S_ .f32 0x00000000#32))
        (broadcastInDim S320000x1 ![0] bcast_S320000_S320000x1_0 (V0 (Proc.devRef .tc main_arg1))) v (ix1 k)
      = ∑ t : Fin 320000, if key V0 t = ((low k).val : Int) then v (ix1 t) else 0 := by
  rw [Scatter.by_id]
  have z : (broadcastInDim S127 ![] bcast_S_S127 (constant S_ .f32 0x00000000#32) : FVec Ideal S127 .f32) (ix1 k) = 0 := by
    pointwise []
  rw [z, zero_add]
  exact sum_idx1 _

/-- A row's lanes added up. -/
theorem row_sum (x : FVec Ideal S320000x128 .f32) (t : Fin 320000) :
    Host.reduceAdd x (constant S_ .f32 0x00000000#32) reducesTo_S320000x128_S320000_d1 h_S_ (ix1 t)
      = ∑ l : Fin 128, x (ix2 t l) := by
  pointwise []

/-- The counts. -/
theorem counts (k : Fin 127) : res_main_v3 V0 (ix1 k) = rowsOf (key V0) (low k) := by
  unfold res_main_v3
  refine (gathered V0 _ k).trans ?_
  unfold rowsOf
  refine Finset.sum_congr rfl fun t _ => if_congr Iff.rfl ?_ rfl
  pointwise []

/-- The element counts. -/
theorem elements (k : Fin 127) : res_main_v14 V0 (ix1 k) = rowsOf (key V0) (low k) * lanes := by
  rw [← counts]
  pointwise [res_main_v14]

/-- The means. -/
theorem means (k : Fin 127) : res_main_v17 V0 (ix1 k) = meanAt (key V0) (val V0) (low k) := by
  unfold res_main_v17
  pointwise []
  rw [gathered, elements]
  simp only [row_sum]
  rfl

end Cert.ReferenceIdeal.Means

end
-- ==== Proof.Rows.lean ====
/-
  The two arrays of 128 rows the reference sets its means and spreads into.
-/
module

public import proofs.«01_k».proof.Proof.Means

@[expose] public section

noncomputable section

namespace Cert.ReferenceIdeal.Means

open Cert.ReferenceIdeal Cert.ReferenceIdeal.Gen Cert.ReferenceIdeal.Value Cert.PairLoss Idealize.ShloMosaic Idealize.SL.Sem

variable (V0 : Valuation τ sig (Elt Ideal))

/-- The word of zero reads as zero. -/
theorem zero_word : id (constant (F := Ideal) S_ .f32 0#32) ix0 = (0 : EReal) := by
  show Ideal.ofBits .f32 0#32 = 0
  simp [Ideal.ofBits, Ideal.ieee]

/-- Both start words of the column's window are zero. -/
theorem zero_words (p : S2.Idx) :
    concatenate S2 0 [⟨S1, (broadcastInDim S1 ![] bcast_S_S1 (constantI S_ 32 0#32))⟩,
      ⟨S1, (broadcastInDim S1 ![] bcast_S_S1 (constantI S_ 32 0#32))⟩] concatenates_S1_S1_S2_d0 p = 0#32 := by
  revert p
  decide +kernel

/-- The spreads, set into a column of 128. -/
theorem spreads (range : ∀ t, key V0 t < 127) (r : Fin 128) :
    res_main_v42 V0 (ix2 r 0) = spreadAt (key V0) (val V0) r := by
  unfold res_main_v42
  rw [Scatter.set_column]
  · pointwise [res_main_v27]
    split
    · next h =>
      rw [counts, elements, means, gathered]
      simp only [row_sum]
      unfold spreadAt spreadOf
      have e : low ⟨r.val, h⟩ = r := rfl
      rw [e]
      by_cases many : 1 < rowsOf (key V0) r
      · rw [if_pos many, if_pos many, if_pos many]
        rfl
      · rw [if_neg many, if_neg many]
        exact zero_word
    · next h =>
      have hr : r.val = 127 := by omega
      exact (spreadAt_none _ _ r fun t => by have := range t; omega).symm
  · intro p
    exact zero_words p

/-- The means, set into 128 rows and repeated along the lanes. -/
theorem rows (range : ∀ t, key V0 t < 127) (r l : Fin 128) :
    res_main_v43 V0 (ix3 r 0 l) = meanAt (key V0) (val V0) r := by
  unfold res_main_v43
  pointwise []
  rw [Scatter.set_rows]
  · split
    · next h =>
      pointwise []
      exact means V0 ⟨r.val, h⟩
    · next h =>
      have hr : r.val = 127 := by omega
      pointwise []
      exact (meanAt_none _ _ r fun t => by have := range t; omega).symm
  · intro p
    rfl

end Cert.ReferenceIdeal.Means

end
-- ==== Proof.Ratios.lean ====
/-
  The reference's arrays of pairs and triples in closed form, and its result as the loss.
-/
module

public import proofs.«01_k».proof.Proof.Rows

@[expose] public section

noncomputable section

namespace Cert.ReferenceIdeal.Ratios

open Cert.ReferenceIdeal Cert.ReferenceIdeal.Gen Cert.ReferenceIdeal.Value Cert.ReferenceIdeal.Means Cert.PairLoss
open Idealize.ShloMosaic Idealize.SL.Sem

/-- A row number is at least a column number, compared as words. -/
theorem not_before (j k : Fin 128) :
    IntOp.cmpi .sge (BitVec.ofNat 32 j.val + 0#32) (BitVec.ofNat 32 k.val) = if j < k then 0#1 else 1#1 := by
  revert j k
  decide +kernel

/-- The choice by that comparison is the choice by the pair's order. -/
theorem masked (j k : Fin 128) (x : EReal) :
    Scalar.select (IntOp.cmpi CmpIPredicate.sge (IntOp.addi (BitVec.ofNat 32 j.val) 0#32) (BitVec.ofNat 32 k.val)) 0 x
      = if j < k then x else 0 := by
  show Scalar.select (IntOp.cmpi CmpIPredicate.sge (BitVec.ofNat 32 j.val + 0#32) (BitVec.ofNat 32 k.val)) 0 x = _
  rw [not_before]
  split <;> rfl

/-- The reference's last lines, of the scaled unit differences `p`, `q` and the distances `d`. -/
def closing (p q : FVec Ideal S128x128x128 .f32) (d : FVec Ideal S128x128 .f32) : FVec Ideal S_ .f32 :=
  Host.divf (Host.reduceAdd (select (broadcastInDim S128x128x128 ![1, 2] bcast_S128x128_S128x128x128_1_2 (cmpi .sge (addi (iotaInDim S128x128 32 0) (broadcastInDim S128x128 ![] bcast_S_S128x128 (constantI S_ 32 0#32))) (iotaInDim S128x128 32 1))) (broadcastInDim S128x128x128 ![] bcast_S_S128x128x128 (constant S_ .f32 0x00000000#32)) (Host.divf (addf p q) (addf (addf (addf (broadcastInDim S128x128x128 ![0, 1, 2] bcast_S1x128x128_S128x128x128_0_1_2 (broadcastInDim S1x128x128 ![1, 2] bcast_S128x128_S1x128x128_1_2 d)) p) q) (broadcastInDim S128x128x128 ![] bcast_S_S128x128x128 (constant S_ .f32 0x3727C5AC#32))))) (constant S_ .f32 0x00000000#32) reducesTo_S128x128x128_S_d0_1_2 h_S_) (constant S_ .f32 0x4A000000#32)

/-- They average the ratios over the pairs in order. -/
theorem closing_eq (p q : FVec Ideal S128x128x128 .f32) (d : FVec Ideal S128x128 .f32) (s : S_.Idx) :
    closing p q d s = Ideal.div (∑ i : Fin 128, ∑ j : Fin 128, ∑ k : Fin 128,
      if j < k then Ideal.div (p (ix3 i j k) + q (ix3 i j k)) (d (ix2 j k) + p (ix3 i j k) + q (ix3 i j k) + tiny) else 0)
      (Ideal.ofBits .f32 0x4A000000#32) := by
  obtain rfl : s = ix0 := Subsingleton.elim _ _
  pointwise [closing]
  refine congrArg (Ideal.div · _) (Finset.sum_congr rfl fun i _ => Finset.sum_congr rfl fun j _ =>
    Finset.sum_congr rfl fun k _ => ?_)
  exact masked j k _

/-- With those arrays in closed form, the last lines average the kernel's ratios. -/
theorem closing_total (mean spread : Fin 128 → EReal) (nonneg : ∀ k, 0 ≤ spread k)
    (p q : FVec Ideal S128x128x128 .f32) (d : FVec Ideal S128x128 .f32)
    (hp : ∀ i j k : Fin 128, p (ix3 i j k) = refPart mean spread i j j)
    (hq : ∀ i j k : Fin 128, q (ix3 i j k) = refPart mean spread i j k)
    (hd : ∀ j k : Fin 128, d (ix2 j k) = refDist mean j k) (s : S_.Idx) :
    closing p q d s = Ideal.div (total mean spread) (Ideal.ofBits .f32 0x4A000000#32) := by
  rw [closing_eq]
  unfold total
  simp only [hp, hq, hd, ← refRatio_eq mean spread nonneg]
  rfl

variable (V0 : Valuation τ sig (Elt Ideal)) (range : ∀ t, key V0 t < 127)

/-- The means by row. -/
abbrev mean : Fin 128 → EReal := meanAt (key V0) (val V0)

/-- The spreads by row. -/
abbrev spread : Fin 128 → EReal := spreadAt (key V0) (val V0)

include range

/-- The differences of two means. -/
theorem differences (i j l : Fin 128) : res_main_v47 V0 (ix3 i j l) = mean V0 j - mean V0 i := by
  unfold res_main_v47
  pointwise []
  rw [rows V0 range, rows V0 range]

/-- The squared distances. -/
theorem squared (i j : Fin 128) : res_main_v49 V0 (ix2 i j) = refSquare (mean V0) i j := by
  unfold res_main_v49
  pointwise []
  simp only [differences V0 range]
  rfl

/-- The distances. -/
theorem distances (i j : Fin 128) : res_main_v54 V0 (ix2 i j) = refDist (mean V0) i j := by
  unfold res_main_v54
  pointwise [res_main_v51]
  rw [squared V0 range]
  unfold refDist
  by_cases apart : 0 < refSquare (mean V0) i j
  · rw [if_pos apart, if_pos apart, if_pos apart, if_pos apart]
  · rw [if_neg apart, if_neg apart]
    exact zero_word

/-- The unit differences. -/
theorem units (i j l : Fin 128) : res_main_v59 V0 (ix3 i j l) = refUnit (mean V0) i j := by
  unfold res_main_v59
  pointwise []
  rw [differences V0 range, distances V0 range]
  rfl

/-- The first scaled unit differences. -/
theorem first_parts (i j k : Fin 128) : res_main_v66 V0 (ix3 i j k) = refPart (mean V0) (spread V0) i j j := by
  unfold res_main_v66
  pointwise []
  rw [units V0 range, spreads V0 range]
  rfl

/-- The second scaled unit differences. -/
theorem second_parts (i j k : Fin 128) : res_main_v74 V0 (ix3 i j k) = refPart (mean V0) (spread V0) i j k := by
  unfold res_main_v74
  pointwise []
  rw [units V0 range, spreads V0 range]
  rfl

/-- The reference's result is the loss. -/
theorem result (s : S_.Idx) :
    closing (res_main_v66 V0) (res_main_v74 V0) (res_main_v54 V0) s = loss (key V0) (val V0) :=
  closing_total (mean V0) (spread V0) (fun _ => spreadOf_nonneg _ _ _) _ _ _ (first_parts V0 range) (second_parts V0 range)
    (distances V0 range) s

end Cert.ReferenceIdeal.Ratios

end
-- ==== Proof.lean ====
/-
  The certificate's claims together: the frames of the kernel, of the kernel read over the extended reals and of the
  reference, the reading itself, and the equality of the two results, whose common value is the loss of the rows.
-/
module

public import proofs.«01_k».proof.Defs
public import proofs.«01_k».proof.Proof.Gen.Kernel.Frame
public import proofs.«01_k».proof.Proof.KernelLoss
public import proofs.«01_k».proof.Proof.Ratios
public import Idealize.ShloMosaic.Adequacy
public import Idealize.ShloMosaic.Init

@[expose] public section

noncomputable section

namespace Cert.Proof

open Idealize.ShloMosaic Idealize.SL.Sem

/-- The precondition's one shape fact. -/
theorem range_facts : Cert.Pre_ids_in_range.Facts where
  bcast_S_S320000 := by decide

/-- An id's two comparisons both hold exactly when it lies from 0 to 126. -/
theorem in_range (w : BitVec 32) (h : IntOp.andi (IntOp.cmpi .sge w 0#32) (IntOp.cmpi .slt w 127#32) = 1#1) :
    0 ≤ w.toInt ∧ w.toInt < 127 := by
  have both : ∀ a b : Bool, IntOp.andi (BitVec.ofBool a) (BitVec.ofBool b) = 1#1 → a = true ∧ b = true := by decide
  obtain ⟨least, most⟩ := both _ _ h
  exact ⟨BitVec.sle_iff_toInt_le.1 least, BitVec.slt_iff_toInt_lt.1 most⟩

/-- The precondition bounds every id. -/
theorem ids_bounded (m : (ℓ : Loc Cert.KernelIdeal.nD Cert.KernelIdeal.τ Cert.KernelIdeal.sig) → Buf (Elt Ideal) ℓ)
    (h : Cert.Pre_KernelIdeal_ids_in_range (hPre_ids_in_range := range_facts) m) (c : Dev Cert.KernelIdeal.nD)
    (t : Fin 320000) : 0 ≤ Cert.KernelIdeal.Segments.key m c t ∧ Cert.KernelIdeal.Segments.key m c t < 127 :=
  in_range _ (congrFun (h c) (ix1 t))

/-- The reference runs, keeps its arguments, and declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Where the arguments agree, the reference's result is the loss of the kernel's arguments. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (values : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (ids : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (range : ∀ t, 0 ≤ Cert.KernelIdeal.Segments.key m c t ∧ Cert.KernelIdeal.Segments.key m c t < 127)
    (s : Cert.ReferenceIdeal.S_.Idx) :
    Cert.ReferenceIdeal.Ratios.closing (Cert.ReferenceIdeal.Value.res_main_v66 (StableHlo.launchContents m' c))
        (Cert.ReferenceIdeal.Value.res_main_v74 (StableHlo.launchContents m' c))
        (Cert.ReferenceIdeal.Value.res_main_v54 (StableHlo.launchContents m' c)) s
      = Cert.PairLoss.loss (Cert.KernelIdeal.Segments.key m c) (Cert.KernelIdeal.Segments.val m c) := by
  have keys : Cert.ReferenceIdeal.Means.key (StableHlo.launchContents m' c) = Cert.KernelIdeal.Segments.key m c :=
    funext fun t => congrArg (BitVec.toInt (n := 32)) (congrFun ids (ix1 t))
  have vals : Cert.ReferenceIdeal.Means.val (StableHlo.launchContents m' c) = Cert.KernelIdeal.Segments.val m c :=
    funext fun t => funext fun l => congrFun values (ix2 t l)
  rw [Cert.ReferenceIdeal.Ratios.result _ (fun t => by rw [keys]; exact (range t).2), keys, vals]

/-- The kernel read over the extended reals and the reference return the same scalar. -/
theorem same_value : Cert.algebraic_KernelIdeal_ReferenceIdeal_pre_ids_in_range
    (hKernelIdeal := Cert.KernelIdeal.Gen.facts) (hReferenceIdeal := Cert.ReferenceIdeal.Gen.facts)
    (hPre_ids_in_range := range_facts) := by
  intro m g m' g' pre agree
  refine ⟨fun c => fun _ => Cert.PairLoss.loss (Cert.KernelIdeal.Segments.key m c) (Cert.KernelIdeal.Segments.val m c), ?_, ?_⟩
  · exact (θ_run Cert.KernelIdeal.defs _ _).mono (fun r h c => ⟨(h c).1.trans (funext fun s =>
      Cert.KernelIdeal.KernelLoss.result_eq m c (ids_bounded m pre c) s), (h c).2⟩)
      (Cert.KernelIdeal.Totals.run (F := Ideal) m g)
  · exact (θ_run Cert.ReferenceIdeal.defs _ _).mono (fun r h c => ⟨(h c).1.trans (funext fun s =>
      reference_value m m' c (agree c).1 (agree c).2 (ids_bounded m pre c) s), (h c).2⟩)
      (Cert.ReferenceIdeal.Value.run (F := Ideal) m' g')

/-- Everything claimed. -/
theorem claim : Cert.Claim :=
  ⟨Cert.Kernel.Gen.facts, Cert.KernelIdeal.Gen.facts, Cert.ReferenceIdeal.Gen.facts, range_facts,
    fun m g _ => Cert.Kernel.Gen.frame m g, fun m g _ => Cert.KernelIdeal.Gen.frame m g,
    fun m g _ => Cert.KernelIdeal.Gen.frame m g, fun m g _ => reference_frame m g, fun m g _ => reference_frame m g,
    trivial, same_value⟩

end Cert.Proof

end
